-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_vocabulary [hPre_in_vocabulary : Cert.Pre_in_vocabulary.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocabulary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocabulary [hPre_in_vocabulary : Cert.Pre_in_vocabulary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocabulary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_vocabulary [hKernelIdeal : Cert.KernelIdeal.Facts] [hPre_in_vocabulary : Cert.Pre_in_vocabulary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_vocabulary m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_vocabulary [hReferenceIdeal : Cert.ReferenceIdeal.Facts] [hPre_in_vocabulary : Cert.Pre_in_vocabulary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocabulary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_in_vocabulary [hKernelIdeal : Cert.KernelIdeal.Facts] [hReferenceIdeal : Cert.ReferenceIdeal.Facts] [hPre_in_vocabulary : Cert.Pre_in_vocabulary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_vocabulary m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_vocabulary : Cert.Pre_in_vocabulary.Facts),
    quiescent_Kernel (hKernel := hKernel)
    ∧ quiescent_KernelIdeal (hKernelIdeal := hKernelIdeal)
    ∧ quiescent_KernelIdeal_pre_in_vocabulary (hKernelIdeal := hKernelIdeal) (hPre_in_vocabulary := hPre_in_vocabulary)
    ∧ quiescent_ReferenceIdeal (hReferenceIdeal := hReferenceIdeal)
    ∧ quiescent_ReferenceIdeal_pre_in_vocabulary (hReferenceIdeal := hReferenceIdeal) (hPre_in_vocabulary := hPre_in_vocabulary)
    ∧ preserves_Kernel_KernelIdeal
    ∧ algebraic_KernelIdeal_ReferenceIdeal_pre_in_vocabulary (hKernelIdeal := hKernelIdeal) (hReferenceIdeal := hReferenceIdeal) (hPre_in_vocabulary := hPre_in_vocabulary)
-- ==== Pre_in_vocabulary.lean ====
abbrev S8x20000 : Shape := ⟨2, ![8, 20000]⟩
abbrev S_ : Shape := ⟨0, ![]⟩
abbrev S20000x64 : Shape := ⟨2, ![20000, 64]⟩
abbrev S9x64 : Shape := ⟨2, ![9, 64]⟩

class Facts : Prop where
  bcast_S_S8x20000 : S_.BroadcastsInDim S8x20000 (![] : Fin 0 → Fin S8x20000.rank)
  reducesTo_S8x20000_S_d0_1 : S8x20000.ReducesTo [0, 1] S_
  h_S_ : 0 < S_.numel

variable [Facts]

def fn {F : FTy → Type} [FloatOps F] (main_arg0 : IVec S8x20000 32) (main_arg1 : IVec S_ 32) (main_arg2 : IVec S_ 32) (main_arg3 : FVec F S20000x64 .f32) (main_arg4 : FVec F S9x64 .f32) : IVec S_ 1 :=
  let main_c : IVec S_ 32 := constantI S_ 32 0#32
  let main_v0 : IVec S8x20000 32 := broadcastInDim S8x20000 ![] bcast_S_S8x20000 main_c
  let main_v1 : IVec S8x20000 1 := cmpi .sge main_arg0 main_v0
  let main_c_0 : IVec S_ 32 := constantI S_ 32 9#32
  let main_v2 : IVec S8x20000 32 := broadcastInDim S8x20000 ![] bcast_S_S8x20000 main_c_0
  let main_v3 : IVec S8x20000 1 := cmpi .slt main_arg0 main_v2
  let main_v4 : IVec S8x20000 1 := andi main_v1 main_v3
  let main_c_1 : IVec S_ 1 := constantI S_ 1 1#1
  let main_v5 : IVec S_ 1 := (fun x v => Host.reduce IntOp.andi x v reducesTo_S8x20000_S_d0_1 h_S_) main_v4 main_c_1
  main_v5
-- ==== Kernel.lean ====
abbrev S8x20000 : Shape := ⟨2, ![8, 20000]⟩
abbrev S_ : Shape := ⟨0, ![]⟩
abbrev S20000x64 : Shape := ⟨2, ![20000, 64]⟩
abbrev S9x64 : Shape := ⟨2, ![9, 64]⟩
abbrev S80x1x2000 : Shape := ⟨3, ![80, 1, 2000]⟩
abbrev S16x64 : Shape := ⟨2, ![16, 64]⟩
abbrev S1 : Shape := ⟨1, ![1]⟩
abbrev S80x2000x64 : Shape := ⟨3, ![80, 2000, 64]⟩
abbrev S1x1x2000 : Shape := ⟨3, ![1, 1, 2000]⟩
abbrev S2000x64 : Shape := ⟨2, ![2000, 64]⟩
abbrev S1x2000x64 : Shape := ⟨3, ![1, 2000, 64]⟩
abbrev S2000 : Shape := ⟨1, ![2000]⟩
abbrev S2000x1 : Shape := ⟨2, ![2000, 1]⟩
abbrev S2000x16 : Shape := ⟨2, ![2000, 16]⟩
abbrev S8x20000x64 : Shape := ⟨3, ![8, 20000, 64]⟩

abbrev nBuf : Space → Nat
  | .hbm => 13
  | .vmem => 7
  | .smem => 0
  | _ => 0

abbrev bufTy : (tb : Table) → Fin (tcTables nBuf tb) → BufTy
  | .hbm, ⟨0, _⟩ => ⟨S8x20000, .i32⟩
  | .hbm, ⟨1, _⟩ => ⟨S_, .i32⟩
  | .hbm, ⟨2, _⟩ => ⟨S_, .i32⟩
  | .hbm, ⟨3, _⟩ => ⟨S20000x64, .f32⟩
  | .hbm, ⟨4, _⟩ => ⟨S9x64, .f32⟩
  | .hbm, ⟨5, _⟩ => ⟨S80x1x2000, .i32⟩
  | .hbm, ⟨6, _⟩ => ⟨S_, .f32⟩
  | .hbm, ⟨7, _⟩ => ⟨S16x64, .f32⟩
  | .hbm, ⟨8, _⟩ => ⟨S_, .i32⟩
  | .hbm, ⟨9, _⟩ => ⟨S1, .i32⟩
  | .hbm, ⟨10, _⟩ => ⟨S16x64, .f32⟩
  | .hbm, ⟨11, _⟩ => ⟨S80x2000x64, .f32⟩
  | .hbm, ⟨12, _⟩ => ⟨S8x20000x64, .f32⟩
  | .local _ .vmem, ⟨0, _⟩ => ⟨S1x1x2000, .i32⟩
  | .local _ .vmem, ⟨1, _⟩ => ⟨S1x1x2000, .i32⟩
  | .local _ .vmem, ⟨2, _⟩ => ⟨S2000x64, .f32⟩
  | .local _ .vmem, ⟨3, _⟩ => ⟨S2000x64, .f32⟩
  | .local _ .vmem, ⟨4, _⟩ => ⟨S16x64, .f32⟩
  | .local _ .vmem, ⟨5, _⟩ => ⟨S1x2000x64, .f32⟩
  | .local _ .vmem, ⟨6, _⟩ => ⟨S1x2000x64, .f32⟩
  | _, _ => ⟨S8x20000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![80], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c10_i32 : BitVec 32 := 10#32
  let c0_i32 : BitVec 32 := 0#32
  let v0 : BitVec 1 := Scalar.cmpi .eq c10_i32 c0_i32
  let c1_i32 : BitVec 32 := 1#32
  let v1 : BitVec 32 := Scalar.select v0 c1_i32 c10_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x2000 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S8x20000 : Shape := ⟨2, ![8, 20000]⟩
abbrev S_ : Shape := ⟨0, ![]⟩
abbrev S20000x64 : Shape := ⟨2, ![20000, 64]⟩
abbrev S9x64 : Shape := ⟨2, ![9, 64]⟩
abbrev S1x20000x64 : Shape := ⟨3, ![1, 20000, 64]⟩
abbrev S8x20000x64 : Shape := ⟨3, ![8, 20000, 64]⟩
abbrev S8x20000x1 : Shape := ⟨3, ![8, 20000, 1]⟩
abbrev S1 : Shape := ⟨1, ![1]⟩
abbrev S1x1x1 : Shape := ⟨3, ![1, 1, 1]⟩

abbrev nBuf : Space → Nat
  | .hbm => 31
  | .vmem => 0
  | .smem => 0
  | _ => 0

abbrev bufTy : (tb : Table) → Fin (tcTables nBuf tb) → BufTy
  | .hbm, ⟨0, _⟩ => ⟨S8x20000, .i32⟩
  | .hbm, ⟨1, _⟩ => ⟨S_, .i32⟩
  | .hbm, ⟨2, _⟩ => ⟨S_, .i32⟩
  | .hbm, ⟨3, _⟩ => ⟨S20000x64, .f32⟩
  | .hbm, ⟨4, _⟩ => ⟨S9x64, .f32⟩
  | .hbm, ⟨5, _⟩ => ⟨S1x20000x64, .f32⟩
  | .hbm, ⟨6, _⟩ => ⟨S8x20000x64, .f32⟩
  | .hbm, ⟨7, _⟩ => ⟨S_, .i32⟩
  | .hbm, ⟨8, _⟩ => ⟨S8x20000, .i32⟩
  | .hbm, ⟨9, _⟩ => ⟨S8x20000, .i1⟩
  | .hbm, ⟨10, _⟩ => ⟨S_, .i32⟩
  | .hbm, ⟨11, _⟩ => ⟨S8x20000, .i32⟩
  | .hbm, ⟨12, _⟩ => ⟨S8x20000, .i32⟩
  | .hbm, ⟨13, _⟩ => ⟨S8x20000, .i32⟩
  | .hbm, ⟨14, _⟩ => ⟨S8x20000x1, .i32⟩
  | .hbm, ⟨15, _⟩ => ⟨S1, .i32⟩
  | .hbm, ⟨16, _⟩ => ⟨S_, .i32⟩
  | .hbm, ⟨17, _⟩ => ⟨S8x20000x1, .i32⟩
  | .hbm, ⟨18, _⟩ => ⟨S8x20000x1, .i1⟩
  | .hbm, ⟨19, _⟩ => ⟨S1x1x1, .i32⟩
  | .hbm, ⟨20, _⟩ => ⟨S8x20000x1, .i32⟩
  | .hbm, ⟨21, _⟩ => ⟨S8x20000x1, .i1⟩
  | .hbm, ⟨22, _⟩ => ⟨S8x20000x1, .i1⟩
  | .hbm, ⟨23, _⟩ => ⟨S_, .i1⟩
  | .hbm, ⟨24, _⟩ => ⟨S8x20000, .i1⟩
  | .hbm, ⟨25, _⟩ => ⟨S8x20000x64, .f32⟩
  | .hbm, ⟨26, _⟩ => ⟨S8x20000x64, .i1⟩
  | .hbm, ⟨27, _⟩ => ⟨S_, .f32⟩
  | .hbm, ⟨28, _⟩ => ⟨S8x20000x64, .f32⟩
  | .hbm, ⟨29, _⟩ => ⟨S8x20000x64, .f32⟩
  | .hbm, ⟨30, _⟩ => ⟨S8x20000x64, .f32⟩
  | _, _ => ⟨S8x20000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v2 : Ref sig .tc := ⟨.hbm, 29, rfl⟩
abbrev main_v3 : Ref sig .tc := ⟨.hbm, 30, rfl⟩

abbrev nD : Nat := 1
abbrev τ : Topo := Topo.v7x

variable {F : FTy → Type} [FloatOps F]
-- ==== Proof.Lookup.lean ====
/-
  The function both programs compute, in plain terms, and the bound the precondition puts on its indices.
-/
module

public import proofs.«01_k».proof.Pre_in_vocabulary
public import proofs.«01_k».proof.Proof.Gen.Pre_in_vocabulary
public import Idealize.ShloMosaic.Lib.Pointwise
public import Idealize.ShloMosaic.Lib.Tactic.WordOmega
public import Idealize.ShloMosaic.Lib.Routing.OpsPair
public import Idealize.ShloMosaic.Lib.StableHlo.Predicate

@[expose] public section

noncomputable section

namespace Cert.Lookup

open Idealize.ShloMosaic

/-- The table row an index word names: the word read as a natural number, and the last row for a word past the end
    (such words are excluded by the precondition). -/
def row (w : BitVec 32) : Fin 9 := ⟨min w.toNat 8, by omega⟩

/-- A word below 9 names the row of its own number. -/
theorem row_val {w : BitVec 32} (h : w.toNat < 9) : (row w).val = w.toNat := by
  unfold row; dsimp only; omega

/-- The result, element by element: entry `(b, g, f)` is gene embedding `g` at feature `f` plus the row of the
    mutation table named by the index `x[b, g]`, at the same feature. -/
def embedding (x : IVec (⟨2, ![8, 20000]⟩ : Shape) 32) (gene : FVec Ideal (⟨2, ![20000, 64]⟩ : Shape) .f32)
    (tab : FVec Ideal (⟨2, ![9, 64]⟩ : Shape) .f32) : FVec Ideal (⟨3, ![8, 20000, 64]⟩ : Shape) .f32 :=
  fun i => gene (ix2 (i 1) (i 2)) + tab (ix2 (row (x (ix2 (i 0) (i 1)))) (i 2))

/-- An "all" reduction to one scalar that comes out true has every entry true. -/
theorem fold_andi_true {ι : Type} [DecidableEq ι] (s : Finset ι) (p : ι → BitVec 1)
    (h : Finset.fold IntOp.andi 1#1 p s = 1#1) : ∀ i ∈ s, p i = 1#1 := by
  induction s using Finset.induction_on with
  | empty => intro i hi; cases hi
  | insert a s ha ih =>
    rw [Finset.fold_insert ha] at h
    have key : ∀ a b : BitVec 1, IntOp.andi a b = 1#1 → a = 1#1 ∧ b = 1#1 := by decide
    obtain ⟨h1, h2⟩ := key _ _ h
    intro i hi
    rcases Finset.mem_insert.1 hi with rfl | hi
    · exact h1
    · exact ih h2 i hi

/-- Where the precondition holds, every index word is below 9. -/
theorem lt_of_pre {x : IVec (⟨2, ![8, 20000]⟩ : Shape) 32} {a b : IVec (⟨0, ![]⟩ : Shape) 32}
    {gene : FVec Ideal (⟨2, ![20000, 64]⟩ : Shape) .f32} {tab : FVec Ideal (⟨2, ![9, 64]⟩ : Shape) .f32}
    (h : Cert.Pre_in_vocabulary.fn (F := Ideal) x a b gene tab = fun _ => 1#1) (i : Fin 8) (j : Fin 20000) :
    (x (ix2 i j)).toNat < 9 := by
  have h0 := congrFun h ix0
  unfold Cert.Pre_in_vocabulary.fn at h0
  pointwise at h0
  have hij := fold_andi_true _ _ h0 (i, j) (Finset.mem_univ _)
  dsimp only at hij
  clear h h0
  generalize x (ix2 i j) = w at hij
  word_omega

end Cert.Lookup

end
-- ==== Proof.KernelBlock.lean ====
/-
  What one block of the kernel computes: the one-hot product picks a table row, and the gene block is added.
-/
module

public import proofs.«01_k».proof.Proof.Lookup
public import proofs.«01_k».proof.Proof.Gen.KernelIdeal.Skeleton

@[expose] public section

set_option maxRecDepth 16384

noncomputable section

namespace Cert.KernelBlock

open Idealize.ShloMosaic Cert.KernelIdeal Cert.KernelIdeal.Gen

/-- The comparison bit of two words, widened and converted to a float, is 1 where they are equal and 0 elsewhere. -/
theorem onehot (a b : BitVec 32) :
    (FloatOps.sitofp (F := Ideal) FTy.f32 (BitVec.setWidth 32 (IntOp.cmpi .eq a b)) : EReal) = if a = b then 1 else 0 := by
  by_cases h : a = b
  · rw [if_pos h, StableHlo.Predicate.cmpi_eq_iff.2 h]
    show ((((BitVec.setWidth 32 1#1).toInt : ℝ)) : EReal) = 1
    norm_num
  · rw [if_neg h, show IntOp.cmpi .eq a b = 0#1 from by
      rcases BitVec.eq_zero_or_eq_one (IntOp.cmpi .eq a b) with e | e
      · exact e
      · exact absurd (StableHlo.Predicate.cmpi_eq_iff.1 e) h]
    show ((((BitVec.setWidth 32 0#1).toInt : ℝ)) : EReal) = 0
    norm_num

/-- A sum over the 16 table rows weighted by "is this the row of the word" is that row, for a word below 16. -/
theorem pick (w : BitVec 32) (hw : w.toNat < 16) (g : Fin 16 → EReal) :
    ∑ k : Fin 16, (if w = BitVec.ofNat 32 k.val then (1 : EReal) else 0) * g k = g ⟨w.toNat, hw⟩ := by
  rw [Finset.sum_eq_single (⟨w.toNat, hw⟩ : Fin 16)]
  · rw [if_pos (by simp), one_mul]
  · intro k _ hk
    rw [if_neg, zero_mul]
    rintro rfl
    exact hk (Fin.ext (by have := k.isLt; simp; omega))
  · intro h; exact absurd (Finset.mem_univ _) h

/-- One block of the kernel's result: gene `r` of the block at feature `f`, plus the padded table at the row named by
    the block's index word `r`, whatever the table holds, for an index word below 16. -/
theorem payload_apply (x : Vec Ideal S1x1x2000 .i32) (tab : Vec Ideal S16x64 .f32) (gene : Vec Ideal S2000x64 .f32)
    (z : Fin 1) (r : Fin 2000) (f : Fin 64) (h : (x (ix3 0 0 r)).toNat < 16) :
    k0_pay1 (F := Ideal) x tab gene (ix3 z r f) = gene (ix2 r f) + tab (ix2 ⟨(x (ix3 0 0 r)).toNat, h⟩ f) := by
  rw [← pick _ h fun k => tab (ix2 k f)]
  pointwise [k0_pay1]
  simp only [onehot]

end Cert.KernelBlock

end
-- ==== Proof.KernelHost.lean ====
/-
  What the kernel's arrays hold when the region starts: the indices in blocks of 2000, and the table padded to 16 rows.
-/
module

public import proofs.«01_k».proof.Proof.Lookup
public import proofs.«01_k».proof.Proof.Gen.KernelIdeal.Frame
public import Idealize.ShloMosaic.Lib.Routing.OpsSet
public import Idealize.ShloMosaic.Lib.StableHlo.ReadAt

@[expose] public section

set_option maxRecDepth 16384

noncomputable section

namespace Cert.KernelHost

open Idealize.ShloMosaic Idealize.ShloMosaic.TcCoe Idealize.SL.Sem Cert.KernelIdeal Cert.KernelIdeal.Gen

variable (m : (ℓ : Loc nD τ sig) → Buf (Elt Ideal) ℓ)

/-- Entry `r` of index block `t` is gene `2000 (t mod 10) + r` of sample `t / 10`: the host reshape before the region. -/
theorem V_main_v0 (c : Dev nD) (t : Fin 80) (z : Fin 1) (r : Fin 2000) :
    (V m c main_v0 : Vec Ideal S80x1x2000 .i32) (ix3 t z r)
      = (m ((c : Thread nD τ).loc main_arg0) : Vec Ideal S8x20000 .i32)
          (ix2 ⟨t.val / 10, by omega⟩ ⟨t.val % 10 * 2000 + r.val, by omega⟩) := by
  unfold V V0
  after_reads_at

/-- The one update of the scatter starts at row 0 and column 0. -/
theorem start_zero (j : S9x64.Idx) (a : Fin 2) :
    scatter_S16x64_S1_S9x64_01_n_0_0.start j (fun _ => 0#32 : IVec S1 32) a = 0 := by
  match a with
  | ⟨0, _⟩ => rfl
  | ⟨1, _⟩ => rfl

/-- The scatter that writes a 9-row table at row 0 of a 16-row array leaves the table's row `k` in row `k < 9`. -/
theorem scatter_apply (x : Vec Ideal S16x64 .f32) (upd : Vec Ideal S9x64 .f32) (k : Fin 9) (f : Fin 64) :
    Host.scatter scatter_S16x64_S1_S9x64_01_n_0_0 (fun _ b => b) x (fun _ => 0#32) upd (ix2 ⟨k.val, by omega⟩ f)
      = upd (ix2 k f) := by
  have hw0 : ∀ j : S9x64.Idx, scatter_S16x64_S1_S9x64_01_n_0_0.window j 0 = (j 0).val := fun j => rfl
  have hw1 : ∀ j : S9x64.Idx, scatter_S16x64_S1_S9x64_01_n_0_0.window j 1 = (j 1).val := fun j => rfl
  refine Routing.scatter_set_hit _ x _ upd _ _ (fun j hj => ?_) (ix2 k f) ?_
  · rw [Routing.resultIdx?_eq_some] at hj
    have h0 := hj 0
    have h1 := hj 1
    rw [start_zero, hw0, zero_add, Nat.cast_inj] at h0
    rw [start_zero, hw1, zero_add, Nat.cast_inj] at h1
    rw [eq_ix2 j]
    exact congrArg upd (congrArg₂ ix2 (Fin.ext h0) (Fin.ext h1))
  · rw [Routing.resultIdx?_eq_some]
    intro a
    match a with
    | ⟨0, _⟩ => exact (congrArg (· + _) (start_zero _ 0)).trans (zero_add _)
    | ⟨1, _⟩ => exact (congrArg (· + _) (start_zero _ 1)).trans (zero_add _)

/-- Row `k < 9` of the padded table is the mutation table's row `k`. -/
theorem V_main_v3 (c : Dev nD) (k : Fin 9) (f : Fin 64) :
    (V m c main_v3 : Vec Ideal S16x64 .f32) (ix2 ⟨k.val, by omega⟩ f)
      = (m ((c : Thread nD τ).loc main_arg4) : Vec Ideal S9x64 .f32) (ix2 k f) := by
  have h : (V m c main_v3 : Vec Ideal S16x64 .f32)
      = (Host.scatter scatter_S16x64_S1_S9x64_01_n_0_0 (fun _ b => b)
          (broadcastInDim S16x64 ![] bcast_S_S16x64 (constant (F := Ideal) S_ .f32 0x00000000#32))
          (fun _ => 0#32) (m ((c : Thread nD τ).loc main_arg4) : Vec Ideal S9x64 .f32) : Vec Ideal S16x64 .f32) := by
    unfold V V0
    after_reads_simp
    rfl
  rw [h, scatter_apply]

end Cert.KernelHost

end
-- ==== Proof.KernelValue.lean ====
/-
  What the kernel's result array holds: the blocks the grid writes, the array they make, and the reshape after them.
-/
module

public import proofs.«01_k».proof.Proof.KernelBlock
public import proofs.«01_k».proof.Proof.KernelHost
public import Idealize.ShloMosaic.Lib.Pipeline.ValueKit
public import Idealize.ShloMosaic.Lib.Claim

@[expose] public section

set_option maxRecDepth 16384

noncomputable section

namespace Cert.KernelValue

open Idealize.ShloMosaic Idealize.ShloMosaic.TcCoe Idealize.SL.Sem Cert.KernelIdeal Cert.KernelIdeal.Gen Cert.Lookup

variable (m : (ℓ : Loc nD τ sig) → Buf (Elt Ideal) ℓ)

/-- The index words, the gene embeddings and the mutation table, as launched. -/
abbrev xs (c : Dev nD) : IVec S8x20000 32 := m ((c : Thread nD τ).loc main_arg0)
@[inherit_doc xs] abbrev genes (c : Dev nD) : FVec Ideal S20000x64 .f32 := m ((c : Thread nD τ).loc main_arg3)
@[inherit_doc xs] abbrev table (c : Dev nD) : FVec Ideal S9x64 .f32 := m ((c : Thread nD τ).loc main_arg4)

/-- Where the four windows' blocks lie at grid point `t`: the index and result blocks at `t`, the gene block at
    `t mod 10`, the whole padded table. -/
theorem idx_facts : ∀ t : Fin cfg0.N, win0_0.index t = ![t.val, 0, 0] ∧ win0_1.index t = ![t.val % 10, 0]
    ∧ win0_2.index t = ![0, 0] ∧ win0_3.index t = ![t.val, 0, 0] :=
  (by decide +kernel : ∀ t : Fin grid0.N, _)

/-- The array the region writes: block `t`, row `r` is the result at sample `t / 10`, gene `2000 (t mod 10) + r`. -/
def blocks (c : Dev nD) : FVec Ideal S80x2000x64 .f32 := fun i =>
  embedding (xs m c) (genes m c) (table m c)
    (ix3 ⟨(i 0).val / 10, by have := (i 0).isLt; change (i 0).val < 80 at this; omega⟩
      ⟨(i 0).val % 10 * 2000 + (i 1).val, by have := (i 1).isLt; change (i 1).val < 2000 at this; omega⟩ (i 2))

/-- Row `r` of the index block at grid point `t` is the index of sample `t / 10`, gene `2000 (t mod 10) + r`. -/
theorem iblk_0 (c : Dev nD) (t : Fin cfg0.N) (ht : t.val < 80) (r : Fin 2000) :
    (iblk m c 0 t : Vec Ideal S1x1x2000 .i32) (ix3 0 0 r)
      = xs m c (ix2 ⟨t.val / 10, by omega⟩ ⟨t.val % 10 * 2000 + r.val, by omega⟩) := by
  refine Eq.trans ?_ (KernelHost.V_main_v0 m c ⟨t.val, ht⟩ 0 r)
  have e := (idx_facts t).1
  blk_ext [iblk, e]

/-- Row `r` of the gene block at grid point `t` is gene embedding `2000 (t mod 10) + r`. -/
theorem iblk_1 (c : Dev nD) (t : Fin cfg0.N) (r : Fin 2000) (f : Fin 64) :
    (iblk m c 1 t : Vec Ideal S2000x64 .f32) (ix2 r f)
      = genes m c (ix2 ⟨t.val % 10 * 2000 + r.val, by omega⟩ f) := by
  have e := (idx_facts t).2.1
  blk_ext [iblk, e, V_main_arg3]

/-- The first nine rows of the padded table's block are the table's rows. -/
theorem iblk_2 (c : Dev nD) (t : Fin cfg0.N) (k : Fin 9) (f : Fin 64) :
    (iblk m c 2 t : Vec Ideal S16x64 .f32) (ix2 ⟨k.val, by omega⟩ f) = table m c (ix2 k f) := by
  refine Eq.trans ?_ (KernelHost.V_main_v3 m c k f)
  have e := (idx_facts t).2.2.1
  blk_ext [iblk, e]

/-- Where every index word is below 9, the array the region leaves is `blocks`: each grid point writes its block of it. -/
theorem arrAt_eq (c : Dev nD) (hx : ∀ i j, (xs m c (ix2 i j)).toNat < 9) :
    (dats m 0 c).arrAt 3 (cfgs 0).N = blocks m c := by
  refine (dats m 0 c).arrAt_eq_of_covers 3 _ (by decide +kernel) fun t hf y => ?_
  blk_simp
  rw [after0_3]
  frame_out
  idx_vars y
  have ht : t.val < 80 := t.isLt
  have e := (idx_facts t).2.2.2
  refine (KernelBlock.payload_apply _ _ _ y0 y1 y2 ?_).trans ?_
  · rw [iblk_0 m c t ht]; exact lt_of_lt_of_le (hx _ _) (by norm_num)
  · have place : ((View.whole main_v4).slice (win0_3.rect t)).emb (ix3 y0 y1 y2) = (ix3 ⟨t.val, ht⟩ y1 y2 : S80x2000x64.Idx) := by
      blk_ext [e]
    have hi : (iblk m c 0 t : Vec Ideal S1x1x2000 .i32) (ix3 0 0 y1) = _ := iblk_0 m c t ht y1
    rw [place]
    unfold blocks embedding
    pointwise
    rw [iblk_1]
    refine congrArg (genes m c (ix2 ⟨t.val % 10 * 2000 + y1.val, by omega⟩ y2) + ·) ?_
    have hk : (xs m c (ix2 ⟨t.val / 10, by omega⟩ ⟨t.val % 10 * 2000 + y1.val, by omega⟩)).toNat < 9 := hx _ _
    rw [← iblk_2 m c t]
    refine congrArg (iblk m c 2 t : Vec Ideal S16x64 .f32) (congrArg (fun k => (ix2 k y2 : S16x64.Idx)) (Fin.ext ?_))
    show (iblk m c 0 t (ix3 0 0 y1)).toNat = _
    rw [hi]
    exact (row_val hk).symm

/-- The four windows are windows on four different arrays. -/
theorem arrays_distinct : Function.Injective (Pipeline.arrRef spec0) := by
  have h : ∀ a b : Fin 4, Pipeline.arrRef spec0 a = Pipeline.arrRef spec0 b → a = b := by decide +kernel
  exact fun a b => h a b

/-- The region's output array as the reshape after the region finds it. -/
theorem exit_eq (c : Dev nD) (hx : ∀ i j, (xs m c (ix2 i j)).toNat < 9) :
    Pipeline.withArrays spec0 c (V0 m c) (fun w => (dats m 0 c).arrAt w (cfgs 0).N) (Proc.tc.devRef main_v4) = blocks m c :=
  (Pipeline.withArrays_arr spec0 arrays_distinct c (V0 m c) _ 3).trans (arrAt_eq m c hx)

/-- The blocks, reshaped to samples by genes by features, are the embedding. -/
theorem reshaped (c : Dev nD) : shapeCast S8x20000x64 (blocks m c) shapeCasts_S80x2000x64_S8x20000x64
    = embedding (xs m c) (genes m c) (table m c) := by
  funext i
  idx_vars i
  unfold blocks
  pointwise
  exact congrArg (embedding (xs m c) (genes m c) (table m c)) (congrArg₂ (fun b g => ix3 b g i2)
    (Fin.ext (by dsimp only; omega)) (Fin.ext (by dsimp only; omega)))

/-- The result after the run: the array the region wrote, reshaped, is the embedding. -/
theorem result_eq (c : Dev nD) (hx : ∀ i j, (xs m c (ix2 i j)).toNat < 9) :
    (Pipeline.afterTail₀ cfgs (dats m) 0 (V0 m) [hostOps1] c main_v5 : Vec Ideal S8x20000x64 .f32)
      = embedding (xs m c) (genes m c) (table m c) := by
  unfold Pipeline.afterTail₀
  simp only [hostOps1, List.flatten_cons, List.flatten_nil, List.append_nil]
  after_results
  refine Eq.trans ?_ (reshaped m c)
  exact congrArg (fun v : Vec Ideal S80x2000x64 .f32 => shapeCast S8x20000x64 v shapeCasts_S80x2000x64_S8x20000x64) (exit_eq m c hx)

/-- Where every index word is below 9, every run of the kernel terminates with the result at the embedding and the
    arguments unchanged. -/
theorem run (ρ : Dev nD → PrngReg) (hx : ∀ c i j, (xs m c (ix2 i j)).toNat < 9) :
    θ_run defs (onTc (τ := τ) (main (F := Ideal))) ⟨m, fun _ => 0, ρ⟩ fun r => ∀ c : Dev nD,
      r.2.mem ((c.tc : Thread nD τ).loc main_v5) = embedding (xs m c) (genes m c) (table m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  θ_run_mono (θ_run_and (run_main m ρ) (unchanged m ρ)) fun _ h c =>
    ⟨((h.1 c).2 main_v5 (Pipeline.mem_restRefs_of main_v5 (by decide) (by decide))).trans (result_eq m c (hx c)), h.2 c⟩

end Cert.KernelValue

end
-- ==== Proof.RefValue.lean ====
/-
  What the reference computes: a gather of table rows, added to the broadcast gene embeddings.
-/
module

public import proofs.«01_k».proof.Proof.Lookup
public import proofs.«01_k».proof.Proof.Gen.ReferenceIdeal.Read

@[expose] public section

set_option maxRecDepth 16384

noncomputable section

namespace Cert.RefValue

open Idealize.ShloMosaic Cert.ReferenceIdeal Cert.ReferenceIdeal.Gen Cert.ReferenceIdeal.Read Cert.Lookup

/-- The reference's row lookup, read at an element: entry `(b, g, f)` is the table at the row named by index word
    `(b, g, 0)` and column `f`, for an index word below 9. -/
theorem gather_apply (tab : FVec Ideal S9x64 .f32) (idx : IVec S8x20000x1 32) (b : Fin 8) (g : Fin 20000) (f : Fin 64)
    (h : (idx (ix3 b g 0)).toNat < 9) :
    Host.gather gather_S9x64_S8x20000x1_S8x20000x64_2_0_n_n_0_2_164 tab idx (ix3 b g f)
      = tab (ix2 (row (idx (ix3 b g 0))) f) := by
  unfold Host.gather
  congr 1
  funext a
  refine Fin.ext ?_
  match a with
  | ⟨0, _⟩ =>
    show GatherDims.start _ _ _ 0 + GatherDims.batchCoord _ _ 0 + GatherDims.offCoord _ _ 0 = (row (idx (ix3 b g 0))).val
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ gather_S9x64_S8x20000x1_S8x20000x64_2_0_n_n_0_2_164.startIndexMap from
      List.mem_singleton.mpr rfl)]
    have hsi : ∀ k, gather_S9x64_S8x20000x1_S8x20000x64_2_0_n_n_0_2_164.siIdx (ix3 b g f) k = ix3 b g 0 := by
      intro k
      funext d; refine Fin.ext ?_
      match d with
      | ⟨0, _⟩ => rfl
      | ⟨1, _⟩ => rfl
      | ⟨2, _⟩ => exact congrArg Fin.val (Subsingleton.elim (α := Fin 1) _ 0)
    rw [hsi, row_val h, StableHlo.Predicate.toInt_eq_toNat_of_lt (lt_trans h (by norm_num))]
    show min (idx (ix3 b g 0)).toNat 8 + 0 + 0 = _
    omega
  | ⟨1, _⟩ =>
    show GatherDims.start _ _ _ 1 + GatherDims.batchCoord _ _ 1 + GatherDims.offCoord _ _ 1 = f.val
    rw [GatherDims.batchCoord_eq_zero _ _ _ List.not_mem_nil]
    unfold GatherDims.start
    rw [dif_neg (show ¬(1 : Fin 2) ∈ gather_S9x64_S8x20000x1_S8x20000x64_2_0_n_n_0_2_164.startIndexMap from by decide)]
    rw [Nat.add_zero, Nat.zero_add]
    rfl

/-- An index word below 9 is not negative, so the reference's wrap of negative indices leaves it as it is. -/
theorem wrapped (x : IVec S8x20000 32) (b : Fin 8) (g : Fin 20000) (h : (x (ix2 b g)).toNat < 9) :
    val_main_call0_v5 (F := Ideal) x (ix3 b g 0) = x (ix2 b g) := by
  pointwise [val_main_call0_v5, val_main_call0_v4, val_main_call0_v3, val_main_call0_v2, val_main_call0_v1, val_main_call0_v0,
    val_main_call0_c, val_main_call0_c_0]
  exact Routing.wrap_of_lt _ _ (lt_trans h (by norm_num))

/-- An index word below 9 is in range, so the reference's mask keeps the looked-up row. -/
theorem kept (x : IVec S8x20000 32) (b : Fin 8) (g : Fin 20000) (h : (x (ix2 b g)).toNat < 9) :
    val_main_call0_v12 (F := Ideal) x (ix2 b g) = 1#1 := by
  pointwise [val_main_call0_v12, val_main_call0_v11, val_main_call0_v10, val_main_call0_v9, val_main_call0_v8, val_main_call0_v7,
    val_main_call0_v6, val_main_call0_c_1, val_main_call0_c_2, val_main_call0_c_3]
  rw [Finset.univ_unique, Finset.fold_singleton, show (default : Fin 1) = 0 from rfl, wrapped x b g h]
  generalize x (ix2 b g) = w at h
  have lo : IntOp.cmpi .sge w 0#32 = 1#1 :=
    (StableHlo.Predicate.sge_iff_toNat (lt_trans h (by norm_num)) (by decide)).2 (Nat.zero_le _)
  have hi : IntOp.cmpi .sle w 8#32 = 1#1 :=
    (StableHlo.Predicate.sle_iff_toNat (lt_trans h (by norm_num)) (by decide)).2 (Nat.lt_succ_iff.mp h)
  rw [lo, hi]
  rfl

/-- Where every index word is below 9, the reference's result is the embedding. -/
theorem value_eq (x : IVec S8x20000 32) (gene : FVec Ideal S20000x64 .f32) (tab : FVec Ideal S9x64 .f32)
    (hx : ∀ i j, (x (ix2 i j)).toNat < 9) : val_main_v3 (F := Ideal) x gene tab = embedding x gene tab := by
  funext i
  idx_vars i
  pointwise [val_main_v3, val_main_v2, val_main_v1, val_main_v0, val_main_call0_v14, embedding, val_main_call0_v13]
  rw [kept x i0 i1 (hx _ _), gather_apply _ _ _ _ _ (by rw [wrapped x _ _ (hx _ _)]; exact hx _ _), wrapped x _ _ (hx _ _)]
  rfl

end Cert.RefValue

end
-- ==== Proof.lean ====
/-
  The certificate of the embedding kernel: `Cert.Claim` (Defs.lean), assembled.

  Frames: the kernel's two are generated (Gen/Kernel/Frame.lean, Gen/KernelIdeal/Frame.lean); the reference's is its
  generated run, and its counters are zero because its signature has none. Value: the kernel's result
  (Proof/KernelValue.lean) and the reference's (Proof/RefValue.lean) are both `Cert.Lookup.embedding` of the arguments.
-/
module

public import proofs.«01_k».proof.Defs
public import proofs.«01_k».proof.Proof.Gen.Kernel.Frame
public import proofs.«01_k».proof.Proof.KernelValue
public import proofs.«01_k».proof.Proof.RefValue
public import Idealize.ShloMosaic.Lib.Quiescent

@[expose] public section

noncomputable section

namespace Cert.Proof

open Idealize.ShloMosaic Idealize.ShloMosaic.TcCoe Idealize.SL.Sem

/-- The reference terminates with its arguments unchanged, and every counter ends at zero: it has no semaphores. -/
theorem reference_frame : Cert.quiescent_ReferenceIdeal (hReferenceIdeal := Cert.ReferenceIdeal.Gen.facts) := fun m g _ =>
  θ_run_mono (Cert.ReferenceIdeal.Value.run m g) fun r h => ⟨fun c => (h c).2, sem_eq_zero_of_no_sems (by decide) r.2⟩

/-- Under the precondition the kernel and the reference, run on the same arguments, end with the same result: the gene
    embedding plus the row of the mutation table that the index names. -/
theorem value : Cert.algebraic_KernelIdeal_ReferenceIdeal_pre_in_vocabulary (hKernelIdeal := Cert.KernelIdeal.Gen.facts)
    (hReferenceIdeal := Cert.ReferenceIdeal.Gen.facts) (hPre_in_vocabulary := Cert.Pre_in_vocabulary.Gen.facts) := by
  intro m g m' g' hpre hagree
  have hx (c) (i j) : (KernelValue.xs m c (ix2 i j)).toNat < 9 := Lookup.lt_of_pre (hpre c) i j
  refine ⟨fun c => Lookup.embedding (KernelValue.xs m c) (KernelValue.genes m c) (KernelValue.table m c), ?_, ?_⟩
  · exact KernelValue.run m g hx
  · refine θ_run_mono (Cert.ReferenceIdeal.Value.run m' g') fun r h c => ⟨(h c).1.trans ?_, (h c).2⟩
    rw [(hagree c).1, (hagree c).2.2.2.1, (hagree c).2.2.2.2]
    refine (Cert.ReferenceIdeal.Read.val_main_v3_eq _ _ _).trans ?_
    exact RefValue.value_eq _ _ _ (hx c)

/-- The five claims stated of the kernel, its idealization and the reference. -/
theorem claim : Cert.Claim :=
  ⟨Cert.Kernel.Gen.facts, Cert.KernelIdeal.Gen.facts, Cert.ReferenceIdeal.Gen.facts, Cert.Pre_in_vocabulary.Gen.facts,
    fun m g _ => Cert.Kernel.Gen.frame m g, fun m g _ => Cert.KernelIdeal.Gen.frame m g,
    fun m g _ => Cert.KernelIdeal.Gen.frame m g, reference_frame, fun m g _ => reference_frame m g trivial, trivial, value⟩

end Cert.Proof

end
